-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x64 : Shape := ⟨2, ![8192, 64]⟩
abbrev S4096x64 : Shape := ⟨2, ![4096, 64]⟩
abbrev S_ : Shape := ⟨0, ![]⟩

abbrev nBuf : Table → Nat
  | .hbm => 2
  | .shared => 1
  | _ => 0

abbrev bufTy : (tb : Table) → Fin (nBuf tb) → BufTy
  | .hbm, ⟨0, _⟩ => ⟨S8192x64, .f32⟩
  | .hbm, ⟨1, _⟩ => ⟨S8192x64, .f32⟩
  | .shared, ⟨0, _⟩ => ⟨S4096x64, .f32⟩
  | _, _ => ⟨S8192x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c4096_i32 : BitVec 32 := 4096#32
  let v0 : BitVec 32 := Scalar.muli arg0 c4096_i32
  let c0_i32_r0 : BitVec 32 := 0#32
  ![v0.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8192x64 : Shape := ⟨2, ![8192, 64]⟩

abbrev nBuf : Space → Nat
  | .hbm => 1
  | .vmem => 0
  | .smem => 0
  | _ => 0

abbrev bufTy : (tb : Table) → Fin (tcTables nBuf tb) → BufTy
  | .hbm, ⟨0, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Copy.lean ====
/-
  The copy on the two SparseCores. The kernel runs on the scalar subcores (sequencers) of both SparseCores. Sequencer `c`
  moves the block of rows `4096 * c ‥ 4096 * c + 4095` of the codebook into its SparseCore's shared vector memory by one
  transfer, waits for it, moves the shared memory to the same rows of the result by a second transfer, and waits for that.
  This module states what the launch hands sequencer `c` (its block of the codebook and its block of the result) and what
  comes back (the same two blocks, the result's now holding the codebook's words), proves that the body does this for a
  symbolic `c`, and concludes with the whole program's run (`run_main`): the result ends as the codebook, the codebook
  unchanged, every semaphore at zero. Everything is stated over any float values, since the kernel computes none.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Ring
public import Idealize.ShloMosaic.Lib.Tactic

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are distinct where they must be and no kernel's scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds, and the counters of the local transfers -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their blocks of rows -/

-- the kernel's three memory operands as the body table passes them: the codebook, the result, the shared scratch
local notation "xW" => (Memref.whole Cert.KernelIdeal.main_arg0_scs : Memref Cert.KernelIdeal.sig Kind.scScalar Space.hbm Cert.KernelIdeal.S8192x64 EltTy.f32)
local notation "oW" => (Memref.whole Cert.KernelIdeal.main_v0_scs : Memref Cert.KernelIdeal.sig Kind.scScalar Space.hbm Cert.KernelIdeal.S8192x64 EltTy.f32)
local notation "shW" => (Memref.whole Cert.KernelIdeal.cc0_scratch0 : Memref Cert.KernelIdeal.sig Kind.scScalar Space.shared Cert.KernelIdeal.S4096x64 EltTy.f32)

abbrev xLoc (d : Dev nD) : Loc nD τ sig := (SparseCore.T d).loc main_arg0
abbrev oLoc (d : Dev nD) : Loc nD τ sig := (SparseCore.T d).loc main_v0
abbrev shLoc (d : Dev nD) (c : Fin τ.nSC) : Loc nD τ sig := (S d c).loc cc0_scratch0

/-- The grid point of SparseCore `c`. -/
def coordsS (c : Fin (grid0.bound 0)) : grid0.Coords := fun | 0 => c | ⟨_ + 1, h⟩ => absurd h (Nat.not_lt.2 (Nat.le_add_left _ _))

/-- The rectangle of SparseCore `c`'s rows, with the offsets that the kernel computes. -/
abbrev rowRect (c : Fin (grid0.bound 0)) : Rect S8192x64 := Rect.unit (k0_off1 (coordsS c)) S4096x64.size (k0_off1_inb (coordsS c))

/-- The elements of SparseCore `c`'s rows. -/
abbrev rowSet (c : Fin (grid0.bound 0)) : Finset S8192x64.Idx := (rowRect c).set

theorem off_eq (c : Fin (grid0.bound 0)) : k0_off1 (coordsS c) = ![4096 * c.val, 0] := k0_off1_eq (coordsS c)

/-- The two SparseCores' rows do not meet, -/
theorem rows_disjoint (c c' : Fin (grid0.bound 0)) (h : c ≠ c') : Disjoint (rowSet c) (rowSet c') :=
  Ring.lead_disjoint (s := S8192x64) (0 : Fin 2) 4096 (fun c : Fin (grid0.bound 0) => k0_off1 (coordsS c)) S4096x64.size (fun c => k0_off1_inb (coordsS c))
    (fun c => congrFun (off_eq c) 0) rfl c c' h

/-- and together they are the whole array. -/
theorem rows_cover : Finset.univ.biUnion rowSet = Finset.univ :=
  Ring.lead_cover (s := S8192x64) (0 : Fin 2) 4096 (fun c : Fin (grid0.bound 0) => k0_off1 (coordsS c)) S4096x64.size (fun c => k0_off1_inb (coordsS c))
    (fun c => congrFun (off_eq c) 0)
    (fun c a ha => by fin_cases a <;> first | exact absurd rfl ha | exact congrFun (off_eq c) 1) rfl
    (fun a ha => by fin_cases a <;> first | exact absurd rfl ha | rfl) rfl

variable (m : (ℓ : Loc nD τ sig) → Buf (Elt F) ℓ)

/-- The codebook's launch contents, as contents of the result's array: what the kernel is to leave there. -/
abbrev book (d : Dev nD) : Buf (Elt F) (oLoc d) := m (xLoc d)

/-- SparseCore `c`'s rows of the codebook, at their launch contents; of the result, at `f`. -/
abbrev xRows (d : Dev nD) (c : Fin (grid0.bound 0)) : sProp 𝕄 := xLoc d ↦[rowSet c]{fullShare} m (xLoc d)
abbrev oRows (d : Dev nD) (c : Fin (grid0.bound 0)) (f : Buf (Elt F) (oLoc d)) : sProp 𝕄 := oLoc d ↦[rowSet c]{fullShare} f

/-! ## What the kernel's two slices and its scratch hold -/

/-- The rows of the codebook and of the result as the body slices them. -/
abbrev xSl (c : Fin (grid0.bound 0)) : Memref sig .scScalar .hbm S4096x64 .f32 := (xW).slice (rowRect c) (fun _ => rfl)
abbrev oSl (c : Fin (grid0.bound 0)) : Memref sig .scScalar .hbm S4096x64 .f32 := (oW).slice (rowRect c) (fun _ => rfl)

section Body

variable (d : Dev nD)

theorem pts_x (k : Fin τ.nSC) (c : Fin (grid0.bound 0)) (f : Buf (Elt F) (xLoc d)) :
    ((xSl c).view.loc (S d k) ↦[(xSl c).view.set]{fullShare} f : sProp 𝕄) = xLoc d ↦[rowSet c]{fullShare} f := by
  rw [show (xSl c).view.set = rowSet c from View.set_slice_whole _ _]
theorem pts_o (k : Fin τ.nSC) (c : Fin (grid0.bound 0)) (f : Buf (Elt F) (oLoc d)) :
    ((oSl c).view.loc (S d k) ↦[(oSl c).view.set]{fullShare} f : sProp 𝕄) = oLoc d ↦[rowSet c]{fullShare} f := by
  rw [show (oSl c).view.set = rowSet c from View.set_slice_whole _ _]
theorem pts_sh (k : Fin τ.nSC) (f : Buf (Elt F) (shLoc d k)) :
    ((shW).view.loc (S d k) ↦{fullShare} f : sProp 𝕄) = shLoc d k ↦{fullShare} f := by
  simp only [Memref.view_whole, View.set_whole]

/-- The two DMA semaphores of the body, one per transfer. -/
abbrev cellIn (k : Fin τ.nSC) : GSem nD τ sig := (S d k, .dma cc0_scoped0.sem)
abbrev cellOut (k : Fin τ.nSC) : GSem nD τ sig := (S d k, .dma cc0_scoped1.sem)

/-- A sequencer's own semaphores at zero: the body's two, and the rest. -/
theorem ownSems_S (k : Fin τ.nSC) :
    (ownSems0 (S d k) : sProp 𝕄) = iprop(semVal (cellIn d k) 0 ∗ semVal (cellOut d k) 0
      ∗ bigSep (((ownCells (S d k)).erase (cellIn d k)).erase (cellOut d k)) fun g => semVal g 0) := by
  unfold SparseCore.Cfg.ownSems0
  rw [SparseCore.bigSep_erase' (i := cellIn d k) ((mem_ownCells (g := cellIn d k)).mpr ⟨rfl, by show (SemLoc.dma cc0_scoped0.sem : SemLoc sig).isScoped .scScalar = true; decide⟩),
    SparseCore.bigSep_erase' (i := cellOut d k) (Finset.mem_erase.mpr ⟨fun h => absurd (congrArg (fun g : GSem nD τ sig => g.2) h)
      (show (SemLoc.dma cc0_scoped1.sem : SemLoc sig) ≠ .dma cc0_scoped0.sem by decide),
      (mem_ownCells (g := cellOut d k)).mpr ⟨rfl, by show (SemLoc.dma cc0_scoped1.sem : SemLoc sig).isScoped .scScalar = true; decide⟩⟩)]

/-- A sequencer's own buffers: the shared scratch at some contents, and the rest. -/
theorem ownBufs_S (k : Fin τ.nSC) :
    (ownBufs (S d k) : sProp 𝕄)
      = iprop((∃ f, shLoc d k ↦{fullShare} f)
          ∗ bigSep ((ownRefs (τ := τ) (.scScalar k)).erase ((Proc.scScalar k).devRef cc0_scratch0)) fun b => iprop(∃ f, ((d, b) : Loc nD τ sig) ↦{fullShare} f)) := by
  unfold SparseCore.Cfg.ownBufs
  exact SparseCore.bigSep_erase' ((mem_ownRefs (p := Proc.scScalar k) (b := (Proc.scScalar k).devRef cc0_scratch0)).mpr rfl)

variable [FloatOps F]

/-- Read through the codebook's slice or, as contents of the result's array, through the result's: the same words. -/
theorem reads_same (c : Fin (grid0.bound 0)) : (xSl c).view.read (Elt F) (m (xLoc d)) = (oSl c).view.read (Elt F) (book m d) := rfl

/-- Where a view's words are overwritten with what the view reads of `g`, the buffer holds `g`. -/
theorem writes_read {κ : Kind} {sp : Space} {s : Shape} {e : EltTy} (v : View sig κ sp s e) (f g : v.ty.Contents (Elt F)) (w : s.Idx → Elt F e)
    (hw : w = v.read (Elt F) g) : ∀ i ∈ v.set, v.writes (Elt F) f [⟨Rect.whole s, w⟩] i = g i := by
  intro i hi
  obtain ⟨x, -, rfl⟩ := Finset.mem_map.mp hi
  have h := View.read_writes_cons_emb (v := v) (f := f) (Rect.whole s) w [] x
  rw [Rect.emb_whole_apply, hw, View.read_apply, View.read_apply] at h
  exact hw ▸ (cast_bijective _).injective h

/-- SparseCore `c`'s sequencer. -/
abbrev seqr (c : Fin (grid0.bound 0)) : Thread nD τ := S d (c.castLE hcore0)

/-- The body on SparseCore `c`'s sequencer, from its rows of the two arrays, the scratch at any contents and its two DMA
    semaphores at zero: both transfers land, the result's rows end as the codebook's, and all else comes back. -/
theorem seq_run (c : Fin (grid0.bound 0)) (O : CellTallies nD τ sig (HIx 1)) (W : Waits sig (HIx 1))
    (fo : Buf (Elt F) ((oSl c).view.loc (seqr d c))) (fs : Buf (Elt F) ((shW).view.loc (seqr d c))) :
    (iprop(Transfers.MayWaits (seqr d c) (none : HIx 1) O
        ∗ ((xSl c).view.loc (seqr d c) ↦[(xSl c).view.set]{fullShare} m (xLoc d))
        ∗ ((oSl c).view.loc (seqr d c) ↦[(oSl c).view.set]{fullShare} fo)
        ∗ ((shW).view.loc (seqr d c) ↦{fullShare} fs)
        ∗ semVal (seqr d c, SemLoc.dma cc0_scoped0.sem) 0 ∗ semVal (seqr d c, SemLoc.dma cc0_scoped1.sem) 0
        ∗ owes (seqr d c) O W) : sProp 𝕄)
      ⊢ wp frame (wpE (defs₀ (F := F)) 𝒱₀ (seqr d c) none) Set.univ
          (cc0__sc_copy (coordsS c) xW (Memref.isWhole_whole _) oW (Memref.isWhole_whole _) shW (Memref.isWhole_whole _) cc0_scoped0 cc0_scoped1)
          fun _ => iprop(((xSl c).view.loc (seqr d c) ↦[(xSl c).view.set]{fullShare} m (xLoc d))
            ∗ ((oSl c).view.loc (seqr d c) ↦[(oSl c).view.set]{fullShare} book m d)
            ∗ (∃ f, (shW).view.loc (seqr d c) ↦{fullShare} f)
            ∗ semVal (seqr d c, SemLoc.dma cc0_scoped0.sem) 0 ∗ semVal (seqr d c, SemLoc.dma cc0_scoped1.sem) 0
            ∗ ∃ W', owes (seqr d c) O W') := by
  iintro ⟨#Hmw, Hx, Ho, Hsh, Hc0, Hc1, HO⟩
  rw [cc0__sc_copy_eq_skeleton]; unfold cc0__sc_copy_skel
  sl_exec (disch := exact View.amount_pos _ _ (show 0 < S4096x64.numel by decide))
  sl_step
  -- the scratch's words on their way out are the codebook's rows that came in
  have hw : seq_run.sl.dma0_1 m d c fs = (xSl c).view.read (Elt F) (m (xLoc d)) := by
    unfold seq_run.sl.dma0_1 seq_run.sl.dma0
    exact View.write_whole_univ _ _ _
  isplitl [Hx]; · iexact Hx
  isplitl [Ho]
  · iapply (Entails.of_eq (pointsTo_congr (writes_read (oSl c).view fo (book m d) _ (hw.trans (reads_same m d c)))))
    iexact Ho
  isplitl [Hsh]; · iexists _; iexact Hsh
  isplitl [Hc0]; · iexact Hc0
  isplitl [Hc1]; · iexact Hc1
  iexists _; iexact HO

/-- What call 0 hands SparseCore `c`'s sequencer: its rows of the codebook, and its rows of the result at any contents. -/
abbrev given (d : Dev nD) (c : Fin (grid0.bound 0)) : sProp 𝕄 := iprop(xRows m d c ∗ ∃ f, oRows d c f)
/-- What it hands back: the same rows of both, those of the result now the codebook's. -/
abbrev made (d : Dev nD) (c : Fin (grid0.bound 0)) : sProp 𝕄 := iprop(xRows m d c ∗ oRows d c (book m d))

/-- The body from what the launch gives a sequencer: its scratch and its two semaphores are taken out of what the
    sequencer owns, and put back after. -/
theorem seq_body (hF : (K (F := F)).Facts) (c : Fin (grid0.bound 0)) (O : CellTallies nD τ sig (HIx 1)) (W : Waits sig (HIx 1)) (hO : ∀ g, O g none = 0) :
    iprop(levAts (K (F := F)).L (K (F := F)).lev ∗ emp ∗ given m d c
        ∗ scopedBufs (seqr d c) ∗ scopedSems0 (seqr d c) ∗ owes (seqr d c) O W)
      ⊢ wp frame (wpE (defs₀ (F := F)) 𝒱₀ (seqr d c) none) Set.univ
          (cc0__sc_copy (coordsS c) xW (Memref.isWhole_whole _) oW (Memref.isWhole_whole _) shW (Memref.isWhole_whole _) cc0_scoped0 cc0_scoped1)
          fun _ => iprop(made m d c ∗ scopedBufs (seqr d c) ∗ scopedSems0 (seqr d c)
            ∗ ∃ W', ⌜∀ p ∈ W', p ∈ W ∨ p.2 = none ∨ p.2 = some (0 : Fin 1)⌝ ∗ owes (seqr d c) O W') := by
  rw [(K (F := F)).scopedBufs_S hF d _, SparseCore.Cfg.scopedSems0_S (Val := Elt F) d _, ownSems_S, ownBufs_S]
  iintro ⟨#Hlv, -, ⟨Hx, %fo, Ho⟩, ⟨⟨⟨%fs, Hsh⟩, Hbufs⟩, Htiles⟩, ⟨⟨Hc0, Hc1, Hsems⟩, HtileSems⟩, HO⟩
  ihave Hmw := ((K (F := F)).mayWaits_none (thr := seqr d c) hO) $$ Hlv
  ihave Hx' := (Entails.of_eq (pts_x (F := F) d _ c _).symm) $$ Hx
  ihave Ho' := (Entails.of_eq (pts_o (F := F) d _ c _).symm) $$ Ho
  ihave Hsh' := (Entails.of_eq (pts_sh (F := F) d _ _).symm) $$ Hsh
  iapply (wp_wand_r Idealize.ShloMosaic.frame (wpE (defs₀ (F := F)) 𝒱₀ (seqr d c) none) Set.univ)
  isplitl [Hx' Ho' Hsh' Hc0 Hc1 HO]
  · iapply (seq_run m d c O W _ _)
    isplitr; · iexact Hmw
    isplitl [Hx']; · iexact Hx'
    isplitl [Ho']; · iexact Ho'
    isplitl [Hsh']; · iexact Hsh'
    isplitl [Hc0]; · iexact Hc0
    isplitl [Hc1]; · iexact Hc1
    iexact HO
  iintro %_ ⟨Hx', Ho', ⟨%f2, Hsh'⟩, Hc0, Hc1, %W', HO⟩
  isplitl [Hx' Ho']
  · isplitl [Hx']; · iapply (Entails.of_eq (pts_x (F := F) d _ c _)); iexact Hx'
    iapply (Entails.of_eq (pts_o (F := F) d _ c _)); iexact Ho'
  isplitl [Hsh' Hbufs Htiles]
  · isplitl [Hsh' Hbufs]
    · isplitl [Hsh']; · iexists _; iapply (Entails.of_eq (pts_sh (F := F) d _ _)); iexact Hsh'
      iexact Hbufs
    iexact Htiles
  isplitl [Hc0 Hc1 Hsems HtileSems]
  · isplitl [Hc0 Hc1 Hsems]
    · isplitl [Hc0]; · iexact Hc0
      isplitl [Hc1]; · iexact Hc1
      iexact Hsems
    iexact HtileSems
  iexists W'; isplitr
  · ipureintro; intro p _
    -- there is one call, so a recorded wait is either local or of that call
    rcases p.2 with _ | q
    · exact .inr (.inl rfl)
    · exact .inr (.inr (congrArg some (Subsingleton.elim q 0)))
  · iexact HO

end Body

/-! ## The launch theorem's obligation -/

/-- The call's payloads. Its tiles take no part. -/
def P : (K (F := F)).Pay (nD := nD) (Val := Elt F) (Name := ℕ) (U := UU) where
  st := fun | 0, d, c => given m d c
  dn := fun | 0, d, c => made m d c
  go := fun _ _ _ _ => iprop(emp)
  td := fun _ _ _ _ => iprop(emp)
  x := fun _ _ => iprop(emp)

instance P_storable : (P (F := F) m).IsStorable where
  st q d c := by match q with | 0 => unfold P; infer_instance
  dn q d c := by match q with | 0 => unfold P; infer_instance
  go _ _ _ _ := by unfold P; infer_instance
  td _ _ _ _ := by unfold P; infer_instance

variable [FloatOps F] (ρ : Dev nD → PrngReg)

theorem defs₀_scalar (k : Fin τ.nSC) :
    defs₀ (F := F) (.scScalar k) 0 ()
      = SparseCore.onCore hcore0 (fun c => cc0__sc_copy (coordsS c) xW (Memref.isWhole_whole _) oW (Memref.isWhole_whole _)
          shW (Memref.isWhole_whole _) cc0_scoped0 cc0_scoped1) ⟨⟩ k := rfl

/-- Call 0 on SparseCore `c`'s sequencer is `seq_body` at `c`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact seq_body m d facts c O W hO

/-! ## The launch's ghost element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · iapply (Entails.of_eq (bigSep_emp_const (M := 𝕄) (Finset.univ : Finset (Dev nD))).symm); iempintro
  iapply (Entails.of_eq ((bigSep_congr fun _ _ => bigSep_univ_of_subsingleton (0 : Fin 1)).trans
    (bigSep_emp_const (M := 𝕄) (Finset.univ : Finset (Thread nD τ)))).symm)
  iempintro

/-! ## @main on the TensorCore: one call, the two arrays given to the sequencers by their rows and taken back -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)) := by
  unfold unscopedBufs
  rw [show (Finset.univ.filter fun b : Ref sig .tc => ¬ b.isScoped) = {main_arg0, main_v0} by decide,
    SparseCore.bigSep_insert' (by decide), bigSep_singleton]

omit [FloatOps F] in
/-- The whole codebook is the two SparseCores' rows of it, -/
theorem x_rows (d : Dev nD) : (xLoc d ↦{fullShare} m (xLoc d) : sProp 𝕄) = bigSep Finset.univ fun c => xRows m d c := by
  refine Eq.trans ?_ (pointsTo_biUnion (ℓ := xLoc d) Finset.univ rowSet fun c _ c' _ h => rows_disjoint c c' h)
  rw [rows_cover]

omit [FloatOps F] in
/-- and the whole result, at any contents, the two SparseCores' rows of it. -/
theorem o_rows (d : Dev nD) (f : Buf (Elt F) (oLoc d)) : (oLoc d ↦{fullShare} f : sProp 𝕄) = bigSep Finset.univ fun c => oRows d c f := by
  refine Eq.trans ?_ (pointsTo_biUnion (ℓ := oLoc d) Finset.univ rowSet fun c _ c' _ h => rows_disjoint c c' h)
  rw [rows_cover]

omit [FloatOps F] in
/-- The two arrays whole, the result at any contents, are what the call hands its sequencers, -/
theorem give (d : Dev nD) (f : Buf (Elt F) (oLoc d)) :
    iprop((xLoc d ↦{fullShare} m (xLoc d)) ∗ (oLoc d ↦{fullShare} f))
      ⊢ (bigSep Finset.univ fun c : Fin ((K (F := F)).nCore 0) => (P m).st 0 d c : sProp 𝕄) := by
  rw [x_rows, o_rows]
  refine (Entails.of_eq (bigSep_sep _ _ _).symm).trans (bigSep_mono fun c _ => ?_)
  show iprop(xRows m d c ∗ oRows d c f) ⊢ given m d c
  iintro ⟨Hx, Ho⟩
  isplitl [Hx]; · iexact Hx
  iexists f; iexact Ho

omit [FloatOps F] in
/-- and what they hand back is the two arrays whole, the result now the codebook. -/
theorem take (d : Dev nD) :
    (bigSep Finset.univ fun c : Fin ((K (F := F)).nCore 0) => (P m).dn 0 d c : sProp 𝕄)
      = iprop((xLoc d ↦{fullShare} m (xLoc d)) ∗ (oLoc d ↦{fullShare} book m d)) := by
  rw [x_rows, o_rows]; exact bigSep_sep _ _ _

/-- What @main ends with: the codebook at its launch contents, and the result at the same. -/
abbrev FIN (d : Dev nD) : sProp 𝕄 := iprop((xLoc d ↦{fullShare} m (xLoc d)) ∗ (oLoc d ↦{fullShare} book m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · iapply (give m d _)
    isplitl [Hx]; · iexact Hx
    iexact Ho
  iintro ⟨Hst, Hdn⟩
  ihave Hdn' := (Entails.of_eq (take m d)) $$ Hdn
  imodintro
  isplitl [Hst]; · iexact Hst
  isplitl [Hdn']; · iexact Hdn'
  isplitl [Hb] <;> iassumption

/-- What a final state says of device `d`: the result holds the codebook's launch contents, and so does the codebook. -/
def fq (d : Dev nD) (s' : Phys nD τ sig (Elt F)) : Prop := s'.mem.mem (oLoc d) = book m d ∧ s'.mem.mem (xLoc d) = m (xLoc d)

omit [FloatOps F] in
theorem hfin (d : Dev nD) (s' : Phys nD τ sig (Elt F)) : iprop(FIN m d ∗ SI s') ⊢ (⌜fq m d s'⌝ : sProp 𝕄) := by
  iintro ⟨⟨Hx, Ho⟩, HSI⟩
  icombine HSI Hx gives %hx
  icombine HSI Ho gives %ho
  ipureintro
  exact ⟨funext fun i => ho i (Finset.mem_univ i), funext fun i => hx i (Finset.mem_univ i)⟩

/-! ## The program's run -/

/-- On every device the result is the codebook as launched and the codebook is unchanged; every semaphore is at zero. -/
def Copied : PUnit × MemSt nD τ sig (Elt F) → Prop := fun r =>
  (∀ d : Dev nD, r.2.mem (oLoc d) = book m d ∧ r.2.mem (xLoc d) = m (xLoc d)) ∧ r.2.sem = fun _ => 0

/-- The whole program, from any memory with zero semaphores: every weakly fair run terminates and ends `Copied`. -/
theorem run_main [∀ e, Nonempty (Elt F e)] : θ_run (Cert.KernelIdeal.defs (F := F)) (Cert.KernelIdeal.threads (F := F)) ⟨m, fun _ => 0, ρ⟩ (Copied m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (Copied m) (fun _ h hz => ⟨h, hz⟩)

end Cert.Proof.Copy

end
-- ==== Proof.Ref.lean ====
/-
  The reference's run. It returns its argument, so its program has no operation, its result is the argument's own array, and
  it declares no semaphore. Stated over any float values.
-/
module

public import proofs.«01_k».proof.Defs
public import proofs.«01_k».proof.Proof.Gen.ReferenceIdeal
public import proofs.«01_k».proof.Proof.Gen.Reference
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.StableHlo Idealize.SL.Sem

variable {F : FTy → Type} [FloatOps F]

/-- The reference, from any memory with zero semaphores: every weakly fair run terminates with the argument unchanged on
    every device and every semaphore at zero. -/
theorem run_main (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      (∀ d : Dev nD, r.2.mem ((d.tc : Thread nD τ).loc main_arg0) = m ((d.tc : Thread nD τ).loc main_arg0)) ∧ r.2.sem = fun _ => 0 :=
  (θ_run _ _ _).mono (fun r h => ⟨fun d => (h d main_arg0).trans rfl, sem_eq_zero_of_no_sems rfl r.2⟩)
    (run_seq (by decide) (by decide) Cert.ReferenceIdeal.defs main (fun _ => []) (fun _ => rfl) (fun _ => trivial) m ρ)

end Cert.Proof.Ref

end
-- ==== Proof.lean ====
/-
  The certificate's claim, assembled from the kernel's run (Proof/Copy.lean) and the reference's (Proof/Ref.lean). Both runs
  are stated over any float values for the idealized programs; the programs as printed are the same text, so theirs are the
  same runs read at bit patterns.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Copy
public import proofs.«01_k».proof.Proof.Ref
public import Idealize.ShloMosaic.Adequacy
public import Idealize.ShloMosaic.Init

@[expose] public section

noncomputable section

namespace Cert.Proof

open Idealize.ShloMosaic Idealize.SL.Sem

/-- The printed kernel's run: every weakly fair run terminates with the result, on every device, the argument as launched,
    the argument unchanged, and every semaphore at zero. -/
theorem kernel_run (m : (ℓ : Loc Cert.Kernel.nD Cert.Kernel.τ Cert.Kernel.sig) → Buf (Elt Bits) ℓ) (g : Dev Cert.Kernel.nD → PrngReg) :
    θ_run (Cert.Kernel.defs (F := Bits)) (Cert.Kernel.threads (F := Bits)) ⟨m, fun _ => 0, g⟩ (Copy.Copied (F := Bits) m) :=
  Copy.run_main (F := Bits) m g

/-- The printed reference's run: every weakly fair run terminates with the argument unchanged and no semaphore moved. -/
theorem reference_run (m : (ℓ : Loc Cert.Reference.nD Cert.Reference.τ Cert.Reference.sig) → Buf (Elt Bits) ℓ) (g : Dev Cert.Reference.nD → PrngReg) :
    θ_run (Cert.Reference.defs (F := Bits)) (onTc (τ := Cert.Reference.τ) (Cert.Reference.main (F := Bits))) ⟨m, fun _ => 0, g⟩ fun r =>
      (∀ d : Dev Cert.Reference.nD, r.2.mem ((d.tc : Thread Cert.Reference.nD Cert.Reference.τ).loc Cert.Reference.main_arg0)
        = m ((d.tc : Thread Cert.Reference.nD Cert.Reference.τ).loc Cert.Reference.main_arg0)) ∧ r.2.sem = fun _ => 0 :=
  Ref.run_main (F := Bits) m g

/-- The printed kernel's frame. -/
theorem kernel_frame : Cert.quiescent_Kernel := fun m g _ =>
  (θ_run _ _ _).mono (fun _ h => ⟨fun c => (h.1 c).2, h.2⟩) (kernel_run m g)

/-- The idealized kernel's frame. -/
theorem kernelIdeal_frame : Cert.quiescent_KernelIdeal := fun m g _ =>
  (θ_run _ _ _).mono (fun _ h => ⟨fun c => (h.1 c).2, h.2⟩) (Copy.run_main (F := Ideal) m g)

/-- The value claim over the extended reals: kernel and reference both end with the argument as launched. -/
theorem algebraic : Cert.algebraic_KernelIdeal_ReferenceIdeal := fun m g m' g' _ hm =>
  ⟨fun c => m ((c.tc : Thread Cert.KernelIdeal.nD Cert.KernelIdeal.τ).loc Cert.KernelIdeal.main_arg0),
    (θ_run _ _ _).mono (fun _ h => h.1) (Copy.run_main (F := Ideal) m g),
    (θ_run _ _ _).mono (fun _ h c => ⟨(h.1 c).trans (hm c), h.1 c⟩) (Ref.run_main (F := Ideal) m' g')⟩

/-- The same on bit patterns: kernel and reference agree to the bit. -/
theorem bitexact : Cert.bitexact_Kernel_Reference := fun m g m' g' _ hm =>
  ⟨fun c => m ((c.tc : Thread Cert.Kernel.nD Cert.Kernel.τ).loc Cert.Kernel.main_arg0),
    (θ_run _ _ _).mono (fun _ h => h.1) (kernel_run m g),
    (θ_run _ _ _).mono (fun _ h c => ⟨(h.1 c).trans (hm c), h.1 c⟩) (reference_run m' g')⟩

/-- Every claim of the certificate. -/
theorem claim : Cert.Claim := ⟨Cert.Kernel.Gen.facts, Cert.KernelIdeal.Gen.facts, Cert.ReferenceIdeal.Gen.facts, Cert.Reference.Gen.facts,
  kernel_frame, kernelIdeal_frame, fun m g _ => Ref.run_main (F := Ideal) m g, fun m g _ => reference_run m g, trivial, algebraic, bitexact⟩

end Cert.Proof

end
